-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000x16 : Shape := ⟨2, ![320000, 16]⟩
abbrev S128x128 : Shape := ⟨2, ![128, 128]⟩
abbrev S128 : Shape := ⟨1, ![128]⟩
abbrev S16x16 : Shape := ⟨2, ![16, 16]⟩
abbrev S16 : Shape := ⟨1, ![16]⟩
abbrev S1x128 : Shape := ⟨2, ![1, 128]⟩
abbrev S1000x128 : Shape := ⟨2, ![1000, 128]⟩

abbrev nBuf : Space → Nat
  | .hbm => 12
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S128x128, .f32⟩
  | .hbm, ⟨4, _⟩ => ⟨S128, .f32⟩
  | .hbm, ⟨5, _⟩ => ⟨S16x16, .f32⟩
  | .hbm, ⟨6, _⟩ => ⟨S16, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S128x128 : Shape := ⟨2, ![128, 128]⟩
abbrev S128 : Shape := ⟨1, ![128]⟩
abbrev S16x16 : Shape := ⟨2, ![16, 16]⟩
abbrev S16 : Shape := ⟨1, ![16]⟩
abbrev S1x128 : Shape := ⟨2, ![1, 128]⟩
abbrev S_ : Shape := ⟨0, ![]⟩
abbrev S1x16 : Shape := ⟨2, ![1, 16]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S128x128, .f32⟩
  | .hbm, ⟨4, _⟩ => ⟨S128, .f32⟩
  | .hbm, ⟨5, _⟩ => ⟨S16x16, .f32⟩
  | .hbm, ⟨6, _⟩ => ⟨S16, .f32⟩
  | .hbm, ⟨7, _⟩ => ⟨S128x128, .f32⟩
  | .hbm, ⟨8, _⟩ => ⟨S128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S320000x16, .f32⟩
  | .hbm, ⟨17, _⟩ => ⟨S1x16, .f32⟩
  | .hbm, ⟨18, _⟩ => ⟨S320000x16, .f32⟩
  | .hbm, ⟨19, _⟩ => ⟨S320000x16, .f32⟩
  | .hbm, ⟨20, _⟩ => ⟨S_, .f32⟩
  | .hbm, ⟨21, _⟩ => ⟨S320000x16, .f32⟩
  | .hbm, ⟨22, _⟩ => ⟨S320000x16, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proof.Mlp.Math.lean ====
/-
  The function that both programs compute, written for one row of the node features, and the two texts read as it: the
  kernel's block payload at a row of the block, and the reference's whole-array term at a row of the array.
-/
module

public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Proof.Mlp

open Idealize.ShloMosaic

/-- The shapes, each named once for both programs. -/
abbrev Nodes : Shape := ⟨2, ![10000, 128]⟩
abbrev Weight : Shape := ⟨2, ![128, 128]⟩
abbrev Bias : Shape := ⟨1, ![128]⟩

/-- Hidden unit `j` of a node with features `row`: the affine form clipped below at zero. -/
def hidden (row : Fin 128 → EReal) (wn : FVec Ideal Weight .f32) (bn : Fin 128 → EReal) (j : Fin 128) : EReal :=
  max ((∑ k : Fin 128, row k * wn (ix2 k j)) + bn j) 0

/-- Output `l` of a node with features `row`: the second affine layer over the hidden units. -/
def output (row : Fin 128 → EReal) (wn : FVec Ideal Weight .f32) (bn : Fin 128 → EReal)
    (wo : FVec Ideal Weight .f32) (bo : Fin 128 → EReal) (l : Fin 128) : EReal :=
  (∑ j : Fin 128, hidden row wn bn j * wo (ix2 j l)) + bo l

/-- The perceptron over all nodes: row `r` of the result depends on row `r` of the features alone. -/
def mlp (x : FVec Ideal Nodes .f32) (wn : FVec Ideal Weight .f32) (bn : FVec Ideal Bias .f32)
    (wo : FVec Ideal Weight .f32) (bo : FVec Ideal Bias .f32) : FVec Ideal Nodes .f32 :=
  fun i => output (fun k => x (ix2 (i 0) k)) wn (fun j => bn (ix1 j)) wo (fun l => bo (ix1 l)) (i 1)

/-- Row `r` of the block that the kernel's body computes is the perceptron of row `r` of its feature block. -/
theorem block_apply (x : FVec Ideal KernelIdeal.S1000x128 .f32) (wn : FVec Ideal Weight .f32)
    (bn : FVec Ideal KernelIdeal.S1x128 .f32) (wo : FVec Ideal Weight .f32) (bo : FVec Ideal KernelIdeal.S1x128 .f32)
    (r : Fin 1000) (l : Fin 128) :
    (KernelIdeal.Gen.k0_pay1 (F := Ideal) x wn bn wo bo (ix2 r l) : EReal)
      = output (fun k => x (ix2 r k)) wn (fun j => bn (ix2 0 j)) wo (fun l => bo (ix2 0 l)) l := by
  pointwise [KernelIdeal.Gen.k0_pay1, output, hidden]

open ReferenceIdeal ReferenceIdeal.Gen in
/-- The reference's composed term is the perceptron over all nodes. -/
theorem reference_eq (x : FVec Ideal Nodes .f32) (wn : FVec Ideal Weight .f32) (bn : FVec Ideal Bias .f32)
    (wo : FVec Ideal Weight .f32) (bo : FVec Ideal Bias .f32) :
    addf (Host.dotGeneral dot_S10000x128_S128x128_S10000x128_1_0_0_1_n_n none
        (maximumf (addf (Host.dotGeneral dot_S10000x128_S128x128_S10000x128_1_0_0_1_n_n none x wn)
            (broadcastInDim S10000x128 ![0, 1] bcast_S1x128_S10000x128_0_1 (broadcastInDim S1x128 ![1] bcast_S128_S1x128_1 bn)))
          (broadcastInDim S10000x128 ![] bcast_S_S10000x128 (constant S_ .f32 0x00000000#32))) wo)
      (broadcastInDim S10000x128 ![0, 1] bcast_S1x128_S10000x128_0_1 (broadcastInDim S1x128 ![1] bcast_S128_S1x128_1 bo))
      = mlp x wn bn wo bo := by
  funext i
  pointwise [mlp, output, hidden]

end Cert.Proof.Mlp

end
-- ==== Proof.Mlp.Blocks.lean ====
/-
  The pipelined kernel's result array at the ideal instance: every grid point writes back its thousand rows of the
  perceptron of the argument arrays, the ten blocks of rows fill the array, so the array ends holding the perceptron.
-/
module

public import proofs.«01_k».proof.Proof.Mlp.Math
public import proofs.«01_k».proof.Proof.Gen.KernelIdeal.Value
public import Idealize.ShloMosaic.Lib.StableHlo.Run

@[expose] public section

noncomputable section

namespace Cert.Proof.Mlp

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ)

/-- The perceptron of device `c`'s argument arrays as launched. -/
def result (c : Dev nD) : FVec Ideal Nodes .f32 :=
  mlp (m ((c : Thread nD τ).loc main_arg0)) (m ((c : Thread nD τ).loc main_arg3)) (m ((c : Thread nD τ).loc main_arg4))
    (m ((c : Thread nD τ).loc main_arg7)) (m ((c : Thread nD τ).loc main_arg8))

/-- A bias reshaped to one row, read at a place of the row. -/
theorem row_apply (b : FVec Ideal Bias .f32) (j : Fin 128) :
    shapeCast S1x128 b shapeCasts_S128_S1x128 (ix2 0 j) = b (ix1 j) := by
  pointwise

/-- The region finds the first bias as one row: the host reshapes it. -/
theorem hidden_bias_row (c : Dev nD) (j : Fin 128) :
    (V m c main_call0_v0 : FVec Ideal S1x128 .f32) (ix2 0 j)
      = (m ((c : Thread nD τ).loc main_arg4) : FVec Ideal Bias .f32) (ix1 j) := by
  have h : (V m c main_call0_v0 : FVec Ideal S1x128 .f32)
      = shapeCast S1x128 (m ((c : Thread nD τ).loc main_arg4) : FVec Ideal Bias .f32) shapeCasts_S128_S1x128 := by
    simp only [V, hostOps0, StableHlo.TRef.reshape]
    after_results
    rfl
  rw [h, row_apply]

/-- The region finds the second bias as one row: the host reshapes it. -/
theorem output_bias_row (c : Dev nD) (j : Fin 128) :
    (V m c main_call0_v1 : FVec Ideal S1x128 .f32) (ix2 0 j)
      = (m ((c : Thread nD τ).loc main_arg8) : FVec Ideal Bias .f32) (ix1 j) := by
  have h : (V m c main_call0_v1 : FVec Ideal S1x128 .f32)
      = shapeCast S1x128 (m ((c : Thread nD τ).loc main_arg8) : FVec Ideal Bias .f32) shapeCasts_S128_S1x128 := by
    simp only [V, hostOps0, StableHlo.TRef.reshape]
    after_results
    rfl
  rw [h, row_apply]

/-- The feature window and the result window are at block row `t` at point `t`; the weights and biases do not move. -/
theorem index_facts : ∀ t : Fin cfg0.N,
    win0_0.index t 0 = t.val ∧ win0_0.index t 1 = 0 ∧ win0_5.index t 0 = t.val ∧ win0_5.index t 1 = 0 ∧
    (∀ a, win0_1.index t a = 0) ∧ (∀ a, win0_2.index t a = 0) ∧ (∀ a, win0_3.index t a = 0) ∧
    (∀ a, win0_4.index t a = 0) :=
  (by decide +kernel : ∀ t : Fin grid0.N, _)

/-- Row `y` of the feature block at point `t` is row `1000 t + y` of the features. -/
theorem feature_block (c : Dev nD) (t : Fin cfg0.N) (r : Fin 1000) (k : Fin 128) (R : Fin 10000)
    (hR : R.val = t.val * 1000 + r.val) :
    (iblk m c 0 t : FVec Ideal S1000x128 .f32) (ix2 r k)
      = (m ((c : Thread nD τ).loc main_arg0) : FVec Ideal Nodes .f32) (ix2 R k) := by
  rw [← V_main_arg0 m c]
  refine congrArg (V m c main_arg0 : FVec Ideal Nodes .f32) (Shape.idx_ext₂ ?_ ?_)
  · show win0_0.index t 0 * 1000 + 1 * r.val = R.val
    rw [(index_facts t).1]; omega
  · show win0_0.index t 1 * 128 + 1 * k.val = k.val
    rw [(index_facts t).2.1]; omega

/-- The first weight's block is the whole matrix at every point. -/
theorem hidden_weight_block (c : Dev nD) (t : Fin cfg0.N) :
    (iblk m c 1 t : FVec Ideal Weight .f32) = m ((c : Thread nD τ).loc main_arg3) := by
  rw [← V_main_arg3 m c]
  refine funext fun y => congrArg (V m c main_arg3 : FVec Ideal Weight .f32) (Shape.idx_ext₂ ?_ ?_)
  · exact win0_1.rect_emb_val_of_index_zero t 0 ((index_facts t).2.2.2.2.1 0) y
  · exact win0_1.rect_emb_val_of_index_zero t 1 ((index_facts t).2.2.2.2.1 1) y

/-- The first bias's block is its whole row at every point. -/
theorem hidden_bias_block (c : Dev nD) (t : Fin cfg0.N) :
    (iblk m c 2 t : FVec Ideal S1x128 .f32) = V m c main_call0_v0 := by
  refine funext fun y => congrArg (V m c main_call0_v0 : FVec Ideal S1x128 .f32) (Shape.idx_ext₂ ?_ ?_)
  · exact win0_2.rect_emb_val_of_index_zero t 0 ((index_facts t).2.2.2.2.2.1 0) y
  · exact win0_2.rect_emb_val_of_index_zero t 1 ((index_facts t).2.2.2.2.2.1 1) y

/-- The second weight's block is the whole matrix at every point. -/
theorem output_weight_block (c : Dev nD) (t : Fin cfg0.N) :
    (iblk m c 3 t : FVec Ideal Weight .f32) = m ((c : Thread nD τ).loc main_arg7) := by
  rw [← V_main_arg7 m c]
  refine funext fun y => congrArg (V m c main_arg7 : FVec Ideal Weight .f32) (Shape.idx_ext₂ ?_ ?_)
  · exact win0_3.rect_emb_val_of_index_zero t 0 ((index_facts t).2.2.2.2.2.2.1 0) y
  · exact win0_3.rect_emb_val_of_index_zero t 1 ((index_facts t).2.2.2.2.2.2.1 1) y

/-- The second bias's block is its whole row at every point. -/
theorem output_bias_block (c : Dev nD) (t : Fin cfg0.N) :
    (iblk m c 4 t : FVec Ideal S1x128 .f32) = V m c main_call0_v1 := by
  refine funext fun y => congrArg (V m c main_call0_v1 : FVec Ideal S1x128 .f32) (Shape.idx_ext₂ ?_ ?_)
  · exact win0_4.rect_emb_val_of_index_zero t 0 ((index_facts t).2.2.2.2.2.2.2 0) y
  · exact win0_4.rect_emb_val_of_index_zero t 1 ((index_facts t).2.2.2.2.2.2.2 1) y

/-- The body's loads read whole blocks and its one store covers the result block, so the block is the payload. -/
theorem out_eq (x : FVec Ideal S1000x128 .f32) (wn : FVec Ideal S128x128 .f32) (bn : FVec Ideal S1x128 .f32)
    (wo : FVec Ideal S128x128 .f32) (bo : FVec Ideal S1x128 .f32) :
    out0_5 (F := Ideal) x wn bn wo bo = k0_pay1 (F := Ideal) x wn bn wo bo := by
  have zero : (![0, 0] : Fin 2 → Nat) = fun _ => 0 := funext fun a => by fin_cases a <;> rfl
  unfold out0_5
  rw [View.canon_unit_zero zero]
  simp only [View.ld_unit_zero (S := S1000x128) zero, View.ld_unit_zero (S := S128x128) zero,
    View.ld_unit_zero (S := S1x128) zero]

/-- Element `(r, l)` of the result block at point `t` is element `(1000 t + r, l)` of the result array. -/
theorem result_place (t : Fin cfg0.N) (r : Fin 1000) (l : Fin 128) (R : Fin 10000) (hR : R.val = t.val * 1000 + r.val) :
    (((cfg0.win 5).blk t).view.emb (ix2 r l : S1000x128.Idx) : S10000x128.Idx) = ix2 R l := by
  refine Shape.idx_ext₂ ?_ ?_
  · show win0_5.index t 0 * 1000 + 1 * r.val = R.val
    rw [(index_facts t).2.2.1]; omega
  · show win0_5.index t 1 * 128 + 1 * l.val = l.val
    rw [(index_facts t).2.2.2.1]; omega

/-- What point `t` writes back is its thousand rows of the perceptron. -/
theorem flushed_eq (c : Dev nD) (t : Fin cfg0.N) :
    (dats m 0 c).flushed 5 t = ((cfg0.win 5).blk t).view.read (Elt Ideal) (result m c) := by
  rw [KernelIdeal.Value.flushed5, out_eq, hidden_weight_block, hidden_bias_block, output_weight_block, output_bias_block]
  refine funext fun y => ?_
  obtain ⟨r, l, rfl⟩ : ∃ (r : Fin 1000) (l : Fin 128), y = ix2 r l := ⟨y 0, y 1, eq_ix2 y⟩
  have ht : t.val < 10 := t.isLt.trans_eq N_0
  let R : Fin 10000 := ⟨t.val * 1000 + r.val, by omega⟩
  show k0_pay1 (F := Ideal) (iblk m c 0 t) _ _ _ _ (ix2 r l)
    = result m c (((cfg0.win 5).blk t).view.emb (ix2 r l : S1000x128.Idx) : S10000x128.Idx)
  rw [result_place t r l R rfl, block_apply]
  simp only [feature_block m c t r _ R rfl]
  exact congrArg₂ (fun bn bo => output _ _ bn _ bo l) (funext (hidden_bias_row m c)) (funext (output_bias_row m c))

/-- The ten blocks of rows fill the result array. -/
theorem covered (i : S10000x128.Idx) :
    ∃ t : Fin cfg0.N, (cfg0.win 5).flush t = true ∧ i ∈ ((cfg0.win 5).blk t).view.set := by
  obtain ⟨R, l, rfl⟩ : ∃ (R : Fin 10000) (l : Fin 128), i = ix2 R l := ⟨i 0, i 1, eq_ix2 i⟩
  have hN : cfg0.N = 10 := N_0
  let t : Fin cfg0.N := ⟨R.val / 1000, by omega⟩
  let r : Fin 1000 := ⟨R.val % 1000, by omega⟩
  refine ⟨t, flush0_5 t, ?_⟩
  have h := ((cfg0.win 5).blk t).view.emb_mem_set (ix2 r l : S1000x128.Idx)
  rwa [result_place t r l R (by show R.val = R.val / 1000 * 1000 + R.val % 1000; omega)] at h

/-- After the run the result array is the perceptron of the arguments as launched. -/
theorem final_result (c : Dev nD) : (dats m 0 c).arrAt 5 cfg0.N = result m c :=
  (dats m 0 c).arrAt_eq_of_cover 5 (result m c) (fun t _ => flushed_eq m c t) covered

end Cert.Proof.Mlp

end
-- ==== Proof.lean ====
/- The certificate's claims, assembled: the generated frames of the kernel, the reference's run, and the equation of the
   two results through the perceptron that both compute (Proof/Mlp/). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Mlp.Math
public import proofs.«01_k».proof.Proof.Mlp.Blocks
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates and leaves its arguments as they were; it has no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference, from equal arguments, both end with the perceptron of those arguments. -/
theorem same_function : Cert.algebraic_KernelIdeal_ReferenceIdeal := by
  intro m ρ m' ρ' _ agree
  refine ⟨fun c => Mlp.result m c, ?_, ?_⟩
  · exact (θ_run Cert.KernelIdeal.defs _ _).mono (fun r h c => ⟨(h c).1.trans (Mlp.final_result m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨a0, -, -, a3, a4, -, -, a7, a8⟩ := agree c
    rw [a0, a3, a4, a7, a8]
    exact Mlp.reference_eq _ _ _ _ _

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_function⟩

end Cert.Proof

end
